-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_hot_inputs [hPre_one_hot_inputs : Cert.Pre_one_hot_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_one_hot_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_hot_inputs [hPre_one_hot_inputs : Cert.Pre_one_hot_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_hot_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_hot_inputs [hKernelIdeal : Cert.KernelIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_hot_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_hot_inputs [hReferenceIdeal : Cert.ReferenceIdeal.Facts] [hPre_one_hot_inputs : Cert.Pre_one_hot_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_hot_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_hot_inputs [hKernelIdeal : Cert.KernelIdeal.Facts] [hReferenceIdeal : Cert.ReferenceIdeal.Facts] [hPre_one_hot_inputs : Cert.Pre_one_hot_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_hot_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_hot_inputs : Cert.Pre_one_hot_inputs.Facts),
    quiescent_Kernel (hKernel := hKernel)
    ∧ quiescent_KernelIdeal (hKernelIdeal := hKernelIdeal)
    ∧ quiescent_KernelIdeal_pre_one_hot_inputs (hKernelIdeal := hKernelIdeal) (hPre_one_hot_inputs := hPre_one_hot_inputs)
    ∧ quiescent_ReferenceIdeal (hReferenceIdeal := hReferenceIdeal)
    ∧ quiescent_ReferenceIdeal_pre_one_hot_inputs (hReferenceIdeal := hReferenceIdeal) (hPre_one_hot_inputs := hPre_one_hot_inputs)
    ∧ preserves_Kernel_KernelIdeal
    ∧ algebraic_KernelIdeal_ReferenceIdeal_pre_one_hot_inputs (hKernelIdeal := hKernelIdeal) (hReferenceIdeal := hReferenceIdeal) (hPre_one_hot_inputs := hPre_one_hot_inputs)
-- ==== Pre_one_hot_inputs.lean ====
abbrev S16384 : Shape := ⟨1, ![16384]⟩
abbrev S1000x1000 : Shape := ⟨2, ![1000, 1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : IVec S16384 32) (main_arg1 : FVec F S1000x1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : IVec S1000x1000 32 := iotaInDim S1000x1000 32 0
  let main_v7 : IVec S1000x1000 32 := iotaInDim S1000x1000 32 1
  let main_c_2 : IVec S_ 32 := constantI S_ 32 0#32
  let main_v8 : IVec S1000x1000 32 := broadcastInDim S1000x1000 ![] bcast_S_S1000x1000 main_c_2
  let main_v9 : IVec S1000x1000 32 := addi main_v6 main_v8
  let main_v10 : IVec S1000x1000 1 := cmpi .eq main_v9 main_v7
  let main_v11 : FVec F S1000x1000 .f32 := uitofp .f32 main_v10
  let main_v12 : IVec S1000x1000 1 := cmpf .oeq main_arg1 main_v11
  let main_c_3 : IVec S_ 1 := constantI S_ 1 1#1
  let main_v13 : IVec S_ 1 := (fun x v => Host.reduce IntOp.andi x v reducesTo_S1000x1000_S_d0_1 h_S_) main_v12 main_c_3
  let main_v14 : IVec S_ 1 := andi main_v5 main_v13
  main_v14
-- ==== Kernel.lean ====
abbrev S16384 : Shape := ⟨1, ![16384]⟩
abbrev S1000x1000 : Shape := ⟨2, ![1000, 1000]⟩
abbrev S16384x1 : Shape := ⟨2, ![16384, 1]⟩
abbrev S16384x1000 : Shape := ⟨2, ![16384, 1000]⟩
abbrev S2048x1 : Shape := ⟨2, ![2048, 1]⟩
abbrev S2048x1000 : Shape := ⟨2, ![2048, 1000]⟩

abbrev nBuf : Space → Nat
  | .hbm => 4
  | .vmem => 4
  | .smem => 0
  | _ => 0

abbrev bufTy : (tb : Table) → Fin (tcTables nBuf tb) → BufTy
  | .hbm, ⟨0, _⟩ => ⟨S16384, .i32⟩
  | .hbm, ⟨1, _⟩ => ⟨S1000x1000, .f32⟩
  | .hbm, ⟨2, _⟩ => ⟨S16384x1, .i32⟩
  | .hbm, ⟨3, _⟩ => ⟨S16384x1000, .f32⟩
  | .local _ .vmem, ⟨0, _⟩ => ⟨S2048x1, .i32⟩
  | .local _ .vmem, ⟨1, _⟩ => ⟨S2048x1, .i32⟩
  | .local _ .vmem, ⟨2, _⟩ => ⟨S2048x1000, .f32⟩
  | .local _ .vmem, ⟨3, _⟩ => ⟨S2048x1000, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384 : Shape := ⟨1, ![16384]⟩
abbrev S1000x1000 : Shape := ⟨2, ![1000, 1000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1000 : Shape := ⟨2, ![16384, 1000]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x1000, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1000, .f32⟩
  | .hbm, ⟨21, _⟩ => ⟨S16384x1000, .i1⟩
  | .hbm, ⟨22, _⟩ => ⟨S_, .f32⟩
  | .hbm, ⟨23, _⟩ => ⟨S16384x1000, .f32⟩
  | .hbm, ⟨24, _⟩ => ⟨S16384x1000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.OneHot.lean ====
/- The one-hot matrix: the function of the categories that both programs are shown to compute. -/
module

public import Idealize.ShloMosaic.PureOps.Ideal
public import Idealize.ShloMosaic.Lib.ValueIdx
public import Idealize.ShloMosaic.Lib.Affine

@[expose] public section

noncomputable section

namespace Cert.OneHot

open Idealize.ShloMosaic Idealize.ShloMosaic.ValueIdx

/-- Row `r`, column `k` of the one-hot matrix of the categories `obs`: 1 where `k` is the category of row `r`, 0 elsewhere. -/
def oneHot (obs : IVec ⟨1, ![16384]⟩ 32) : FVec Ideal ⟨2, ![16384, 1000]⟩ .f32 :=
  fun i => if obs (ix1 (i 0)) = BitVec.ofNat 32 (i 1).val then (1 : EReal) else 0

/-- Row `r`, column `k` of the identity matrix: 1 on the diagonal, 0 off it. -/
def identity : FVec Ideal ⟨2, ![1000, 1000]⟩ .f32 :=
  fun i => if (i 0).val = (i 1).val then (1 : EReal) else 0

/-- A comparison bit widened to a word and converted as a signed integer is 1 if the words compared are equal, else 0. -/
theorem signed_bit (x y : BitVec 32) :
    ((((IntOp.cmpi .eq x y).setWidth 32).toInt : ℝ) : EReal) = if x = y then (1 : EReal) else 0 := by
  by_cases h : x = y
  · rw [IntOp.cmpi_eq.mpr h, if_pos h]; norm_num
  · rw [eq_zero_of_ne_one (fun e => h (IntOp.cmpi_eq.mp e)), if_neg h]; norm_num

/-- A comparison bit converted as an unsigned integer is 1 if the words compared are equal, else 0. -/
theorem unsigned_bit (x y : BitVec 32) :
    (((IntOp.cmpi .eq x y).toNat : ℝ) : EReal) = if x = y then (1 : EReal) else 0 := by
  by_cases h : x = y
  · rw [IntOp.cmpi_eq.mpr h, if_pos h]; norm_num
  · rw [eq_zero_of_ne_one (fun e => h (IntOp.cmpi_eq.mp e)), if_neg h]; norm_num

/-- Two naturals below 2³² are equal if their words are. -/
theorem ofNat_eq_iff {a b : Nat} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

end Cert.OneHot

end
-- ==== Proof.Inputs.lean ====
/- What the precondition says of the arguments: every category is below 1000, and the table is the identity matrix. -/
module

public import proofs.«01_k».proof.Proof.Gen.Pre_one_hot_inputs
public import proofs.«01_k».proof.Proof.OneHot
public import Idealize.ShloMosaic.Lib.ReduceAll

@[expose] public section

noncomputable section

namespace Cert.Pre_one_hot_inputs.Read

open Idealize.ShloMosaic Idealize.ShloMosaic.ValueIdx Cert.OneHot
open Cert.Pre_one_hot_inputs

variable (obs : IVec S16384 32) (eye : FVec Ideal S1000x1000 .f32)

instance : Subsingleton S_.Idx := ⟨fun i j => (eq_ix0 i).trans (eq_ix0 j).symm⟩

/-- Two extended reals that compare equal are equal. -/
theorem eq_of_cmp_oeq {x y : EReal} (h : Ideal.cmp .oeq x y = 1#1) : x = y := by
  by_contra hne
  simp [Ideal.cmp, hne] at h

/-- The precondition's one bit is 1 only if both of its conjunctions are. -/
theorem both (h : fn (F := Ideal) obs eye = fun _ => 1#1) :
    (∀ i, 0 ≤ (obs i).toInt ∧ (obs i).toInt < 1000) ∧ eye = identity := by
  have h0 := congrFun h ix0
  unfold fn at h0
  obtain ⟨ho, he⟩ := IntOp.andi_eq_one.mp h0
  refine ⟨fun i => ?_, funext fun i => ?_⟩
  · obtain ⟨hlo, hhi⟩ := IntOp.andi_eq_one.mp (Host.reduce_andi_all _ _ _ _ _ ho i)
    exact ⟨IntOp.cmpi_sge.mp hlo, IntOp.cmpi_slt.mp hhi⟩
  · have hi := Host.reduce_andi_all _ _ _ _ _ he i
    have e := eq_of_cmp_oeq hi
    have h0 := idx2_lt0 i
    have h1 := idx2_lt1 i
    refine e.trans ((unsigned_bit (BitVec.ofNat 32 (i 0).val + 0#32) (BitVec.ofNat 32 (i 1).val)).trans ?_)
    rw [BitVec.add_zero]
    exact if_congr (ofNat_eq_iff (by omega) (by omega)) rfl rfl

/-- Under the precondition every category, read unsigned, is below 1000. -/
theorem obs_lt (h : fn (F := Ideal) obs eye = fun _ => 1#1) (i : S16384.Idx) : (obs i).toNat < 1000 := by
  have := (both obs eye h).1 i
  rw [BitVec.toInt_eq_toNat_cond] at this
  have := (obs i).isLt
  split at * <;> omega

/-- Under the precondition the table is the identity matrix. -/
theorem eye_eq (h : fn (F := Ideal) obs eye = fun _ => 1#1) : eye = identity := (both obs eye h).2

end Cert.Pre_one_hot_inputs.Read

end
-- ==== Proof.Kernel.lean ====
/- What the kernel computes: grid point `t` writes rows 2048·t … 2048·t + 2047 of the one-hot matrix of the categories,
   and the eight points' blocks fill the result array. -/
module

public import proofs.«01_k».proof.Proof.Gen.KernelIdeal.Value
public import proofs.«01_k».proof.Proof.OneHot
public import Idealize.ShloMosaic.Lib.Pointwise.ShapeOps
public import Idealize.ShloMosaic.Lib.Pipeline.ValueKit.Geometry

@[expose] public section

noncomputable section

namespace Cert.KernelIdeal.OneHotValue

open Cert.KernelIdeal Cert.KernelIdeal.Gen Cert.OneHot
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Both offsets of the body's load and store are zero. -/
theorem offsets_zero : (![0, 0] : Fin 2 → Nat) = fun _ => 0 := by funext a; fin_cases a <;> rfl

/-- THE BODY ON ONE BLOCK: from a column of 2048 categories it leaves, at row `r` and column `k`, 1 if the category of
    row `r` is `k`, else 0. -/
theorem block_apply (x : Vec Ideal S2048x1 .i32) (y : S2048x1000.Idx) :
    out0_1 (F := Ideal) x y = if x (ValueIdx.ix2 (y 0) 0) = BitVec.ofNat 32 (y 1).val then (1 : EReal) else 0 := by
  unfold out0_1
  rw [View.canon_unit_zero offsets_zero, View.ld_unit_zero offsets_zero]
  unfold k0_pay1
  rw [shapeCast_self]
  refine Eq.trans ?_ (signed_bit _ _)
  have hrow : broadcastTo S2048x1000 x broadcasts_S2048x1_S2048x1000 y = x (ValueIdx.ix2 (y 0) 0) :=
    broadcastTo_apply _ _ _ _ fun a => by match a with | ⟨0, _⟩ => rfl | ⟨1, _⟩ => rfl
  have hcol : iota .tc S2048x1000 32 [1] iota_S2048x1000_d1_w32 y = BitVec.ofNat 32 (y 1).val := by
    rw [iota_apply]
    simp
  rw [← hrow, ← hcol]
  rfl

/-- The staged array: the categories as a column. -/
theorem column_apply (c : Dev nD) (r : Fin 16384) :
    V m c main_v0 (ValueIdx.ix2 r (0 : Fin 1)) = m ((c : Thread nD τ).loc main_arg0) (ValueIdx.ix1 r) := by
  have e : V m c main_v0 = shapeCast S16384x1 (m ((c : Thread nD τ).loc main_arg0)) shapeCasts_S16384_S16384x1 := by
    show StableHlo.after hostOps0 (fun b => m (c, b)) main_v0 = _
    unfold hostOps0
    rw [StableHlo.after_cons, StableHlo.after_nil, StableHlo.reshape_result']
    rfl
  rw [e]
  refine shapeCast_apply (s := S16384) _ _ _ _ ?_
  rw [Shape.rowMajor_val_one, Shape.rowMajor_val_two]
  simp

/-- The block index of the categories' window at a point: the point's number down the rows, 0 across. -/
theorem index_in : ∀ t : Fin cfg0.N, win0_0.index t = ![t.val, 0] := by decide +kernel

/-- The block index of the result's window at a point: the same. -/
theorem index_out : ∀ t : Fin cfg0.N, win0_1.index t = ![t.val, 0] := by decide +kernel

/-- After the last point the result array is the one-hot matrix of the categories. -/
theorem final (c : Dev nD) : (dats m 0 c).arrAt 1 cfg0.N = oneHot (m ((c : Thread nD τ).loc main_arg0)) := by
  refine (dats m 0 c).arrAt_eq_of_covers 1 _ (by decide +kernel) fun t hf y => ?_
  blk_simp
  rw [after0_1, block_apply]
  unfold oneHot iblk
  blk_simp
  have hin : (win0_0.blk t).view.emb (ValueIdx.ix2 (y 0) 0) = ValueIdx.ix2 ((win0_1.blk t).view.emb y 0) (0 : Fin 1) := by
    funext a
    refine Fin.ext ?_
    match a with
    | ⟨0, _⟩ =>
      show win0_0.index t 0 * 2048 + 1 * (y 0).val = win0_1.index t 0 * 2048 + 1 * (y 0).val
      rw [index_in, index_out]
    | ⟨1, _⟩ =>
      show win0_0.index t 1 * 1 + 1 * 0 = 0
      rw [index_in]
      rfl
  have hcol : win0_1.index t 1 * 1000 + (y 1).val = (y 1).val := by
    rw [index_out]
    exact Nat.zero_add _
  rw [hcol]
  exact if_congr (iff_of_eq (congrArg (fun v => v = BitVec.ofNat 32 (y 1).val)
    ((congrArg (V m c main_v0) hin).trans (column_apply m c _)))) rfl rfl

/-- THE RUN: the result is the one-hot matrix of the categories, the arguments are unchanged. -/
theorem run : θ_run defs (onTc (τ := τ) (main (F := Ideal))) ⟨m, fun _ => 0, ρ⟩ fun r => ∀ c : Dev nD,
      r.2.mem ((c : Thread nD τ).loc main_v1) = oneHot (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.OneHotValue

end
-- ==== Proof.Reference.lean ====
/- What the reference computes: row `r` of its result is the row of the table that the category of row `r` names. -/
module

public import proofs.«01_k».proof.Proof.Gen.ReferenceIdeal.Run
public import proofs.«01_k».proof.Proof.OneHot
public import Idealize.ShloMosaic.Lib.ReduceAll
public import Idealize.ShloMosaic.Lib.Pipeline.Value

@[expose] public section

noncomputable section

namespace Cert.ReferenceIdeal.OneHotValue

open Cert.ReferenceIdeal Cert.ReferenceIdeal.Gen Cert.OneHot
open Idealize.ShloMosaic Idealize.ShloMosaic.TcCoe Idealize.SL.Sem Idealize.ShloMosaic.ValueIdx

/-- The dimension numbers of the gather that reads whole rows of the table. -/
abbrev rows : GatherDims S1000x1000 S16384x1 S16384x1000 := gather_S1000x1000_S16384x1_S16384x1000_1_0_n_n_0_1_11000

/-- The start index of result row `r` is read at row `r` of the column of start indices. -/
theorem start_index (i : S16384x1000.Idx) (k : Fin rows.startIndexMap.length) : rows.siIdx i k = ix2 (i 0) (0 : Fin 1) := by
  funext b
  refine Fin.ext ?_
  match b with
  | ⟨0, _⟩ => rfl
  | ⟨1, _⟩ => exact Nat.lt_one_iff.mp k.isLt

/-- THE ROW GATHER AT AN INDEX: row `r`, column `k` is the table at row `idx[r, 0]`, read signed and clamped into
    `[0, 999]`, and column `k`. -/
theorem gather_apply {α : Type} (x : S1000x1000.Idx → α) (idx : IVec S16384x1 32) (i : S16384x1000.Idx) :
    Host.gather rows x idx i = x (ix2 ⟨min (idx (ix2 (i 0) 0)).toInt.toNat 999, by omega⟩ (i 1)) := by
  unfold Host.gather
  congr 1
  funext a
  refine Fin.ext ?_
  show rows.start i idx a + rows.batchCoord i a + rows.offCoord i a = _
  rw [GatherDims.batchCoord_eq_zero _ _ _ List.not_mem_nil, Nat.add_zero]
  match a with
  | ⟨0, h0⟩ =>
    have hm : (⟨0, h0⟩ : Fin S1000x1000.rank) ∈ rows.startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm, start_index]
    rfl
  | ⟨1, h1⟩ =>
    have hm : (⟨1, h1⟩ : Fin S1000x1000.rank) ∉ rows.startIndexMap := fun h =>
      absurd (congrArg Fin.val (List.mem_singleton.mp h)) Nat.one_ne_zero
    unfold GatherDims.start
    rw [dif_neg hm, Nat.zero_add]
    rfl

/-- A vector laid out as a column, read at a row. -/
theorem column_apply {α : Type} (x : S16384.Idx → α) (j : S16384x1.Idx) :
    broadcastInDim S16384x1 ![0] bcast_S16384_S16384x1_0 x j = x (ix1 (j 0)) :=
  broadcastInDim_apply _ _ x j _ fun a => by match a with | ⟨0, _⟩ => rfl

/-- A vector repeated along every row of the result, read at a row and a column. -/
theorem along_rows_apply {α : Type} (x : S16384.Idx → α) (i : S16384x1000.Idx) :
    broadcastInDim S16384x1000 ![0] bcast_S16384_S16384x1000_0 x i = x (ix1 (i 0)) :=
  broadcastInDim_apply _ _ x i _ fun a => by match a with | ⟨0, _⟩ => rfl

variable (obs : IVec S16384 32) (eye : FVec Ideal S1000x1000 .f32)

/-- The start indices as the reference computes them: a negative category counts from the end of the table. -/
def wrapped : IVec S16384x1 32 :=
  broadcastInDim S16384x1 ![0] bcast_S16384_S16384x1_0
    (select (cmpi .slt obs (broadcastInDim S16384 ![] bcast_S_S16384 (constantI S_ 32 0#32)))
      (addi obs (broadcastInDim S16384 ![] bcast_S_S16384 (constantI S_ 32 1000#32))) obs)

/-- Which rows the reference takes from the table: those whose start index is between 0 and 999. -/
def inside : IVec S16384 1 :=
  Host.reduce IntOp.andi
    (andi (cmpi .sge (wrapped obs) (broadcastInDim S16384x1 ![] bcast_S_S16384x1 (constantI S_ 32 0#32)))
      (cmpi .sle (wrapped obs)
        (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_

/-- The reference's result as a function of its arguments: the named rows of the table, or its filler where no row is named. -/
def result : FVec Ideal S16384x1000 .f32 :=
  select (broadcastInDim S16384x1000 ![0] bcast_S16384_S16384x1000_0 (inside obs)) (Host.gather rows eye (wrapped obs))
    (broadcastInDim S16384x1000 ![] bcast_S_S16384x1000 (constant S_ .f32 0x7FC00000#32))

variable {obs}

/-- A word whose unsigned value is below 1000 has that value signed too. -/
theorem toInt_of_lt {v : BitVec 32} (h : v.toNat < 1000) : v.toInt = v.toNat :=
  BitVec.toInt_eq_toNat_of_lt (by omega)

/-- A category in range is its own start index. -/
theorem wrapped_apply (h : ∀ i, (obs i).toNat < 1000) (j : S16384x1.Idx) : wrapped obs j = obs (ix1 (j 0)) := by
  refine (column_apply _ j).trans ?_
  have hneg : cmpi .slt obs (broadcastInDim S16384 ![] bcast_S_S16384 (constantI S_ 32 0#32)) (ix1 (j 0)) = 0#1 := by
    refine eq_zero_of_ne_one fun e => ?_
    have e' : (obs (ix1 (j 0))).toInt < (0#32 : BitVec 32).toInt := IntOp.cmpi_slt.mp e
    rw [toInt_of_lt (h _)] at e'
    exact absurd e' (by simp)
  rw [select_apply, hneg, select_zero]

/-- Every row is taken from the table when every category is in range. -/
theorem inside_apply (h : ∀ i, (obs i).toNat < 1000) (r : S16384.Idx) : inside obs r = 1#1 := by
  unfold inside
  refine Host.reduce_andi_one _ _ _ _ _ rfl fun j => IntOp.andi_eq_one.mpr ⟨?_, ?_⟩
  · refine IntOp.cmpi_sge.mpr ?_
    show (0#32 : BitVec 32).toInt ≤ (wrapped obs j).toInt
    rw [wrapped_apply h, toInt_of_lt (h _)]
    simp
  · refine IntOp.cmpi_sle.mpr ?_
    show (wrapped obs j).toInt ≤ (999#32 : BitVec 32).toInt
    rw [wrapped_apply h, toInt_of_lt (h _)]
    have := h (ix1 (j 0))
    show _ ≤ (999 : Int)
    omega

/-- THE REFERENCE AT AN INDEX: with every category in range, row `r` of the result is the table's row `obs[r]`. -/
theorem result_apply (h : ∀ i, (obs i).toNat < 1000) (i : S16384x1000.Idx) :
    result obs eye i = eye (ix2 ⟨(obs (ix1 (i 0))).toNat, h _⟩ (i 1)) := by
  unfold result
  rw [select_apply, along_rows_apply, inside_apply h, select_one, gather_apply]
  congr 2
  refine Fin.ext ?_
  have := h (ix1 (i 0))
  show min (wrapped obs _).toInt.toNat 999 = _
  rw [wrapped_apply h, toInt_of_lt (h _)]
  show min (obs (ix1 (i 0))).toNat 999 = (obs (ix1 (i 0))).toNat
  omega

/-- Rows of the identity matrix are rows of the one-hot matrix: with every category in range and the identity for the
    table, the reference's result is the one-hot matrix of the categories. -/
theorem result_eq_oneHot (h : ∀ i, (obs i).toNat < 1000) : result obs identity = oneHot obs := by
  funext i
  rw [result_apply _ h]
  unfold identity oneHot
  have hk : (i 1).val < 1000 := (i 1).isLt
  refine if_congr ?_ rfl rfl
  rw [← BitVec.toNat_inj, BitVec.toNat_ofNat, Nat.mod_eq_of_lt (by omega)]

variable (m : (ℓ : Loc nD τ sig) → Buf (Elt Ideal) ℓ) (ρ : Dev nD → PrngReg)

/-- THE RUN: the reference's result is `result` of its arguments, which are unchanged. -/
theorem run : θ_run defs (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.OneHotValue

end
-- ==== Proof.lean ====
/- The certificate of the one-hot kernel: at the ideal instance the kernel, which compares each category with a column
   number, computes what the reference, which gathers rows of the identity matrix, computes. The frames are the
   generated ones; the two runs are in Proof/Kernel.lean and Proof/Reference.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_hot_inputs
public import Idealize.ShloMosaic.Adequacy
public import Idealize.ShloMosaic.Init
public import Idealize.ShloMosaic.Lib.Quiescent
public import proofs.«01_k».proof.Proof.Inputs
public import proofs.«01_k».proof.Proof.Kernel
public import proofs.«01_k».proof.Proof.Reference

@[expose] public section

noncomputable section

namespace Cert.Proof

open Idealize.ShloMosaic Idealize.SL.Sem

/-- The reference leaves its arguments unchanged and, declaring no semaphore, every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.OneHotValue.run m g)

/-- Where the categories are in range and the table is the identity, both results are the one-hot matrix of the categories. -/
theorem algebraic : Cert.algebraic_KernelIdeal_ReferenceIdeal_pre_one_hot_inputs := by
  intro m g m' g' hpre hagree
  refine ⟨fun c => Cert.OneHot.oneHot (m ((c.tc : Thread Cert.KernelIdeal.nD Cert.KernelIdeal.τ).loc Cert.KernelIdeal.main_arg0)),
    Cert.KernelIdeal.OneHotValue.run m g, ?_⟩
  refine (θ_run Cert.ReferenceIdeal.defs _ _).mono (fun _ h c => ⟨(h c).1.trans ?_, (h c).2⟩)
    (Cert.ReferenceIdeal.OneHotValue.run m' g')
  rw [(hagree c).1, (hagree c).2, Cert.Pre_one_hot_inputs.Read.eye_eq _ _ (hpre c)]
  exact Cert.ReferenceIdeal.OneHotValue.result_eq_oneHot (Cert.Pre_one_hot_inputs.Read.obs_lt _ _ (hpre c))

/-- The certificate: every claim of the statement holds. -/
theorem claim : Cert.Claim :=
  ⟨Cert.Kernel.Gen.facts, Cert.KernelIdeal.Gen.facts, Cert.ReferenceIdeal.Gen.facts, Cert.Pre_one_hot_inputs.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    algebraic⟩

end Cert.Proof

end
